-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x128x128x128 : Shape := ⟨5, ![2, 16, 128, 128, 128]⟩
abbrev S128x64 : Shape := ⟨2, ![128, 64]⟩
abbrev S32x128x128x128 : Shape := ⟨4, ![32, 128, 128, 128]⟩
abbrev S32x64x64x64 : Shape := ⟨4, ![32, 64, 64, 64]⟩
abbrev S2x16x64x64x64 : Shape := ⟨5, ![2, 16, 64, 64, 64]⟩
abbrev S1x64x128x128 : Shape := ⟨4, ![1, 64, 128, 128]⟩
abbrev S1x64x64x64 : Shape := ⟨4, ![1, 64, 64, 64]⟩
abbrev S1x1x64x128 : Shape := ⟨4, ![1, 1, 64, 128]⟩
abbrev S64x128 : Shape := ⟨2, ![64, 128]⟩
abbrev S64x64 : Shape := ⟨2, ![64, 64]⟩
abbrev S1x1x64x64 : Shape := ⟨4, ![1, 1, 64, 64]⟩

abbrev nBuf : Space → Nat
  | .hbm => 5
  | .vmem => 7
  | .smem => 0
  | _ => 0

abbrev bufTy : (tb : Table) → Fin (tcTables nBuf tb) → BufTy
  | .hbm, ⟨0, _⟩ => ⟨S2x16x128x128x128, .f32⟩
  | .hbm, ⟨1, _⟩ => ⟨S128x64, .f32⟩
  | .hbm, ⟨2, _⟩ => ⟨S32x128x128x128, .f32⟩
  | .hbm, ⟨3, _⟩ => ⟨S32x64x64x64, .f32⟩
  | .hbm, ⟨4, _⟩ => ⟨S2x16x64x64x64, .f32⟩
  | .local _ .vmem, ⟨0, _⟩ => ⟨S1x64x128x128, .f32⟩
  | .local _ .vmem, ⟨1, _⟩ => ⟨S1x64x128x128, .f32⟩
  | .local _ .vmem, ⟨2, _⟩ => ⟨S1x64x128x128, .f32⟩
  | .local _ .vmem, ⟨3, _⟩ => ⟨S1x64x128x128, .f32⟩
  | .local _ .vmem, ⟨4, _⟩ => ⟨S128x64, .f32⟩
  | .local _ .vmem, ⟨5, _⟩ => ⟨S1x64x64x64, .f32⟩
  | .local _ .vmem, ⟨6, _⟩ => ⟨S1x64x64x64, .f32⟩
  | _, _ => ⟨S2x16x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x16x128x128x128 : Shape := ⟨5, ![2, 16, 128, 128, 128]⟩
abbrev S2x16x64x2x64x2x64x2 : Shape := ⟨8, ![2, 16, 64, 2, 64, 2, 64, 2]⟩
abbrev S_ : Shape := ⟨0, ![]⟩
abbrev S2x16x64x64x64 : Shape := ⟨5, ![2, 16, 64, 64, 64]⟩

abbrev nBuf : Space → Nat
  | .hbm => 7
  | .vmem => 0
  | .smem => 0
  | _ => 0

abbrev bufTy : (tb : Table) → Fin (tcTables nBuf tb) → BufTy
  | .hbm, ⟨0, _⟩ => ⟨S2x16x128x128x128, .f32⟩
  | .hbm, ⟨1, _⟩ => ⟨S2x16x64x2x64x2x64x2, .f32⟩
  | .hbm, ⟨2, _⟩ => ⟨S_, .f32⟩
  | .hbm, ⟨3, _⟩ => ⟨S2x16x64x64x64, .f32⟩
  | .hbm, ⟨4, _⟩ => ⟨S_, .f32⟩
  | .hbm, ⟨5, _⟩ => ⟨S2x16x64x64x64, .f32⟩
  | .hbm, ⟨6, _⟩ => ⟨S2x16x64x64x64, .f32⟩
  | _, _ => ⟨S2x16x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Pieces.lean ====
/-
  The 64 stores of the kernel's body as ONE family. The body is unrolled: it computes 64 tiles, one per output
  depth, and stores each on its own plane of the output block. Here the list of stores that the run found is shown
  to be that family, by unfolding, so that everything after speaks about one tile at a variable depth.
-/
module

public import proofs.«01_k».proof.Proof.Gen.KernelIdeal.Frame

@[expose] public section

set_option maxRecDepth 16384

noncomputable section

namespace Cert.KernelIdeal.Haar

open Cert.KernelIdeal Cert.KernelIdeal.Gen Idealize.ShloMosaic Idealize.ShloMosaic.TcCoe

variable {F : FTy → Type} [FloatOps F]

/-- Every second row of depth slice `d` of a half block, from row `b` on, stays inside the half block. -/
theorem rows_inb (d b : ℕ) (hd : d < 64) (hb : b < 2) (a : Fin S1x64x128x128.rank) :
    S1x1x64x128.size a = 0 ∨ (![0, d, b, 0] : Fin 4 → ℕ) a + (![1, 1, 2, 1] : Fin 4 → ℕ) a * (S1x1x64x128.size a - 1) < S1x64x128x128.size a := by
  right
  match a with
  | ⟨0, _⟩ => exact Nat.zero_lt_one
  | ⟨1, _⟩ => show d + 1 * 0 < 64; omega
  | ⟨2, _⟩ => show b + 2 * 63 < 128; omega
  | ⟨3, _⟩ => show 0 + 1 * 127 < 128; omega

/-- The rows of depth slice `d` of a half block whose number has remainder `b` modulo 2: what one strided load reads. -/
def rows (X : Vec F S1x64x128x128 .f32) (d b : ℕ) (hd : d < 64) (hb : b < 2) : Vec F S1x1x64x128 .f32 := fun x =>
  X ((⟨![0, d, b, 0], S1x1x64x128.size, ![1, 1, 2, 1], rows_inb d b hd hb⟩ : LoadRect S1x64x128x128).idx x)

/-- One tile: the even and odd rows of the two depth slices `2k` and `2k + 1` added up, times the pairing matrix. -/
def tile (X : Vec F S1x64x128x128 .f32) (P : Vec F S128x64 .f32) (k : ℕ) (hk : k < 32) : FVec F S1x1x64x64 .f32 :=
  k0_pay2 P (rows X (2 * k) 0 (by omega) (by omega)) (rows X (2 * k) 1 (by omega) (by omega))
    (rows X (2 * k + 1) 0 (by omega) (by omega)) (rows X (2 * k + 1) 1 (by omega) (by omega))

/-- Plane `d` of the output block lies inside it. -/
theorem plane_inb (d : ℕ) (hd : d < 64) (a : Fin S1x64x64x64.rank) :
    (![0, d, 0, 0] : Fin 4 → ℕ) a + S1x1x64x64.size a ≤ S1x64x64x64.size a := by
  match a with
  | ⟨0, _⟩ => exact Nat.le_refl 1
  | ⟨1, _⟩ => show d + 1 ≤ 64; omega
  | ⟨2, _⟩ => show 0 + 64 ≤ 64; omega
  | ⟨3, _⟩ => show 0 + 64 ≤ 64; omega

/-- The store of tile `k` of the half block `X` on plane `o + k`. -/
def piece (X : Vec F S1x64x128x128 .f32) (P : Vec F S128x64 .f32) (o k : ℕ) (hk : k < 32) (ho : o + k < 64) :
    View.Piece (Elt F) S1x64x64x64 .f32 :=
  ⟨Rect.unit (s := S1x64x64x64) ![0, o + k, 0, 0] S1x1x64x64.size (plane_inb (o + k) ho), tile X P k hk⟩

/-- The stores of the first `n` tiles of a half block, last first, in front of the stores `L`. -/
def pieces (X : Vec F S1x64x128x128 .f32) (P : Vec F S128x64 .f32) (o : ℕ) :
    (n : ℕ) → n ≤ 32 → o + n ≤ 64 → List (View.Piece (Elt F) S1x64x64x64 .f32) → List (View.Piece (Elt F) S1x64x64x64 .f32)
  | 0, _, _, L => L
  | n + 1, hn, ho, L => piece X P o n (by omega) (by omega) :: pieces X P o n (by omega) (by omega) L

/-- A store of the family is one of its tiles on that tile's plane, or a store it was put in front of. -/
theorem mem_pieces (X : Vec F S1x64x128x128 .f32) (P : Vec F S128x64 .f32) (o : ℕ) (L : List (View.Piece (Elt F) S1x64x64x64 .f32))
    (p : View.Piece (Elt F) S1x64x64x64 .f32) : ∀ (n : ℕ) (hn : n ≤ 32) (ho : o + n ≤ 64), p ∈ pieces X P o n hn ho L →
      (∃ (k : ℕ) (hk : k < 32) (hok : o + k < 64), p = piece X P o k hk hok) ∨ p ∈ L
  | 0, _, _, h => .inr h
  | n + 1, hn, ho, h => by
    rcases List.mem_cons.mp h with rfl | h
    · exact .inl ⟨n, by omega, by omega, rfl⟩
    · exact mem_pieces X P o L p n (by omega) (by omega) h

/-- The body's stores: the tiles of the second half block on planes 32 to 63, written after the tiles of the first
    half block on planes 0 to 31. -/
theorem stores_eq (c : Dev nD) (i : grid0.Coords)
    (arg1 : Memref sig .tc .vmem S1x64x128x128 .f32) (harg1 : arg1.IsWhole) (arg2 : Memref sig .tc .vmem S1x64x128x128 .f32) (harg2 : arg2.IsWhole)
    (arg3 : Memref sig .tc .vmem S128x64 .f32) (harg3 : arg3.IsWhole) (arg4 : Memref sig .tc .vmem S1x64x64x64 .f32) (harg4 : arg4.IsWhole)
    (x0 x1 : Vec F S1x64x128x128 .f32) (x2 : Vec F S128x64 .f32) :
    (kernelRun0_A c i arg1 harg1 arg2 harg2 arg3 harg3 arg4 harg4 x0 x1 x2).1
      = pieces (arg2.view.read (Elt F) (harg2.unread x1)) (View.readAt (Elt F) arg3.view (Rect.unit (s := S128x64) ![0, 0] S128x64.size inb_S128x64_S128x64_0_0).toLoadRect (harg3.unread x2)) 32 32 (by omega) (by omega)
          (pieces (arg1.view.read (Elt F) (harg1.unread x0)) (View.readAt (Elt F) arg3.view (Rect.unit (s := S128x64) ![0, 0] S128x64.size inb_S128x64_S128x64_0_0).toLoadRect (harg3.unread x2)) 0 32 (by omega) (by omega) []) := by
  rfl

end Cert.KernelIdeal.Haar

end
-- ==== Proof.Equation.lean ====
/-
  The mathematics both programs meet in: the low-pass band of the three-dimensional Haar transform on extended reals,
  and the two facts of the algebra the kernel's rearrangement needs.
-/
module

public import Idealize.ShloMosaic.PureOps.Ideal
public import Idealize.ShloMosaic.Lib.Pipeline.ValueKit

@[expose] public section

noncomputable section

namespace Cert.Haar

open Idealize.ShloMosaic

/-- The scale of the band, the single-precision word nearest to `2 ^ (-3/2)`, as an extended real. -/
def scale : EReal := Ideal.ofBits .f32 0x3EB504F3#32

/-- The scale as a fraction. -/
theorem scale_eq : scale = ((11863283 / 33554432 : ℝ) : EReal) := by
  unfold scale
  simp [Ideal.ofBits, Ideal.ieee, -EReal.coe_mul]; norm_num

/-- The scale is not negative. -/
theorem scale_nonneg : 0 ≤ scale := by
  rw [scale_eq]
  exact EReal.coe_nonneg.mpr (by norm_num)

/-- The scale is finite. -/
theorem scale_ne_top : scale ≠ ⊤ := by
  rw [scale_eq]
  exact EReal.coe_ne_top _

/-- Position `2 q + a` on an axis of 128, for a block number `q` and a position `a` in the block. -/
def pos (q : Fin 64) (a : Fin 2) : Fin 128 := ⟨2 * q.val + a.val, by omega⟩

/-- The band: each element is the sum of a block of two by two by two elements, scaled. -/
def band (x : (⟨5, ![2, 16, 128, 128, 128]⟩ : Shape).Idx → EReal) (j : (⟨5, ![2, 16, 64, 64, 64]⟩ : Shape).Idx) : EReal :=
  (∑ a : Fin 2, ∑ b : Fin 2, ∑ e : Fin 2, x (ix5 (j 0) (j 1) (pos (j 2) a) (pos (j 3) b) (pos (j 4) e))) * scale

/-- A row times the pairing matrix: of all its lanes only `2w` and `2w + 1` reach column `w`. -/
theorem sum_pairing (s : Fin 128 → EReal) (w : Fin 64) :
    ∑ j : Fin 128, s j * (if j.val / 2 = w.val then scale else 0) = s (pos w 0) * scale + s (pos w 1) * scale := by
  have hne : pos w 0 ≠ pos w 1 := by simp [pos, Fin.ext_iff]
  rw [← Finset.sum_subset (Finset.subset_univ {pos w 0, pos w 1}), Finset.sum_pair hne]
  · have h0 : (pos w 0).val / 2 = w.val := by simp [pos]
    have h1 : (pos w 1).val / 2 = w.val := by simp [pos]; omega
    rw [if_pos h0, if_pos h1]
  · intro j _ hj
    have hjw : ¬ j.val / 2 = w.val := by
      intro h
      apply hj
      simp only [Finset.mem_insert, Finset.mem_singleton, Fin.ext_iff, pos, Fin.val_zero, Fin.val_one]
      omega
    rw [if_neg hjw, mul_zero]

/-- The kernel's order of work is the band's: first the two depths and rows of each lane, then the two lanes, each
    scaled by itself, give the block's sum scaled once. -/
theorem block_eq (f : Fin 2 → Fin 2 → Fin 2 → EReal) :
    (f 0 0 0 + f 0 1 0 + f 1 0 0 + f 1 1 0) * scale + (f 0 0 1 + f 0 1 1 + f 1 0 1 + f 1 1 1) * scale
      = (∑ a : Fin 2, ∑ b : Fin 2, ∑ e : Fin 2, f a b e) * scale := by
  rw [← EReal.right_distrib_of_nonneg_of_ne_top scale_nonneg scale_ne_top]
  simp only [Fin.sum_univ_two]
  congr 1
  abel

end Cert.Haar

end
-- ==== Proof.Tile.lean ====
/-
  What one block computes: a tile of the body at an index, at exact arithmetic; then the whole output block, when the
  constant input is the pairing matrix.
-/
module

public import proofs.«01_k».proof.Proof.Pieces
public import proofs.«01_k».proof.Proof.Equation

@[expose] public section

set_option maxRecDepth 16384

noncomputable section

namespace Cert.KernelIdeal.Haar

open Cert.KernelIdeal Cert.KernelIdeal.Gen Cert.Haar Idealize.ShloMosaic Idealize.ShloMosaic.TcCoe

/-- The four rows a tile adds up, at row `h` of the tile and lane `j`. -/
def fourRows (X : Vec Ideal S1x64x128x128 .f32) (k : Fin 32) (h : Fin 64) (j : Fin 128) : EReal :=
  X (ix4 0 ⟨2 * k.val, by omega⟩ (pos h 0) j) + X (ix4 0 ⟨2 * k.val, by omega⟩ (pos h 1) j)
    + X (ix4 0 ⟨2 * k.val + 1, by omega⟩ (pos h 0) j) + X (ix4 0 ⟨2 * k.val + 1, by omega⟩ (pos h 1) j)

/-- A tile at row `h` and column `w` is the sum over the lanes of the four rows' elements times the matrix. -/
theorem tile_apply (X : Vec Ideal S1x64x128x128 .f32) (P : Vec Ideal S128x64 .f32) (k : Fin 32) (h w : Fin 64) :
    tile (F := Ideal) X P k.val k.isLt (ix4 0 0 h w) = ∑ j : Fin 128, fourRows X k h j * P (ix2 j w) := by
  pointwise [tile, rows, k0_pay2, fourRows, pos]
  blk_point []

/-- The matrix that pairs lanes: the scale at lanes `2w` and `2w + 1` of column `w`, zero elsewhere. -/
def IsPairing (P : Vec Ideal S128x64 .f32) : Prop :=
  ∀ (j : Fin 128) (w : Fin 64), P (ix2 j w) = if j.val / 2 = w.val then scale else 0

/-- With the pairing matrix, a tile's element is the scaled sum of a block of two by two by two elements. -/
theorem tile_eq (X : Vec Ideal S1x64x128x128 .f32) (P : Vec Ideal S128x64 .f32) (hP : IsPairing P) (k : Fin 32) (h w : Fin 64) :
    tile (F := Ideal) X P k.val k.isLt (ix4 0 0 h w)
      = (∑ a : Fin 2, ∑ b : Fin 2, ∑ e : Fin 2, X (ix4 0 ⟨2 * k.val + a.val, by omega⟩ (pos h b) (pos w e))) * scale := by
  rw [tile_apply]
  simp only [hP _ w]
  rw [sum_pairing]
  exact block_eq fun a b e => X (ix4 0 ⟨2 * k.val + a.val, by omega⟩ (pos h b) (pos w e))

end Cert.KernelIdeal.Haar

end
-- ==== Proof.Block.lean ====
/-
  What the body leaves in its output block: on plane `d` the band of the half block that holds the depths `2d` and
  `2d + 1`.
-/
module

public import proofs.«01_k».proof.Proof.Tile

@[expose] public section

set_option maxRecDepth 16384

noncomputable section

namespace Cert.KernelIdeal.Haar

open Cert.KernelIdeal Cert.KernelIdeal.Gen Cert.Haar Idealize.ShloMosaic Idealize.ShloMosaic.TcCoe

/-- The band of one image, given as its two halves along the depth. -/
def blockBand (x0 x1 : Vec Ideal S1x64x128x128 .f32) (y : S1x64x64x64.Idx) : EReal :=
  (∑ a : Fin 2, ∑ b : Fin 2, ∑ e : Fin 2,
    (if (y 1).val < 32 then x0 else x1) (ix4 0 ⟨2 * ((y 1).val % 32) + a.val, by omega⟩ (pos (y 2) b) (pos (y 3) e))) * scale

/-- The store of tile `k` holds the band on its plane, when the half block `X` is the one that plane belongs to. -/
theorem piece_eq (x0 x1 X : Vec Ideal S1x64x128x128 .f32) (P : Vec Ideal S128x64 .f32) (hP : IsPairing P) (o k : ℕ) (hk : k < 32)
    (ho : o + k < 64) (hX : (if o + k < 32 then x0 else x1) = X) (hm : (o + k) % 32 = k)
    (x : (piece X P o k hk ho).1.shape.Idx) : (piece X P o k hk ho).2 x = blockBand x0 x1 ((piece X P o k hk ho).1.emb x) := by
  obtain ⟨h, w, rfl⟩ : ∃ h w : Fin 64, x = ix4 (0 : Fin 1) (0 : Fin 1) h w :=
    ⟨x 2, x 3, by funext a; match a with
      | ⟨0, _⟩ => exact Subsingleton.elim (α := Fin 1) _ _
      | ⟨1, _⟩ => exact Subsingleton.elim (α := Fin 1) _ _
      | ⟨2, _⟩ => rfl
      | ⟨3, _⟩ => rfl⟩
  have hy : (piece X P o k hk ho).1.emb (ix4 (0 : Fin 1) (0 : Fin 1) h w) = (ix4 (0 : Fin 1) ⟨o + k, ho⟩ h w : S1x64x64x64.Idx) := by
    funext a; apply Fin.ext; match a with
      | ⟨0, _⟩ => rfl
      | ⟨1, _⟩ => rfl
      | ⟨2, _⟩ => show 0 + 1 * h.val = h.val; omega
      | ⟨3, _⟩ => show 0 + 1 * w.val = w.val; omega
  rw [hy]
  refine (tile_eq X P hP ⟨k, hk⟩ h w).trans ?_
  unfold blockBand
  simp only [ix4_1, ix4_2, ix4_3, hm]
  rw [← hX]
  rfl

/-- What the body leaves in the output block, at any input blocks and any staging memory. -/
theorem out_eq (c : Dev nD) (i : grid0.Coords)
    (arg1 : Memref sig .tc .vmem S1x64x128x128 .f32) (harg1 : arg1.IsWhole) (arg2 : Memref sig .tc .vmem S1x64x128x128 .f32) (harg2 : arg2.IsWhole)
    (arg3 : Memref sig .tc .vmem S128x64 .f32) (harg3 : arg3.IsWhole) (arg4 : Memref sig .tc .vmem S1x64x64x64 .f32) (harg4 : arg4.IsWhole)
    (x0 x1 : Vec Ideal S1x64x128x128 .f32) (x2 : Vec Ideal S128x64 .f32) (hP : IsPairing x2) (y : S1x64x64x64.Idx) :
    out0_A_3 (F := Ideal) c i arg1 harg1 arg2 harg2 arg3 harg3 arg4 harg4 x0 x1 x2 y = blockBand x0 x1 y := by
  unfold out0_A_3
  rw [View.read_writes_junk_apply_eq_canon]
  refine View.canon_apply_of_pieces (blockBand x0 x1) _ ?_ y (cover0_A_3 (F := Ideal) c i arg1 harg1 arg2 harg2 arg3 harg3 arg4 harg4 x0 x1 x2 y)
  have hld : View.readAt (Elt Ideal) arg3.view (Rect.unit (s := S128x64) ![0, 0] S128x64.size inb_S128x64_S128x64_0_0).toLoadRect (harg3.unread x2) = x2 := by
    funext z
    rw [View.readAt_apply, harg3.read_unread]
    congr 1
    funext a; apply Fin.ext; match a with
      | ⟨0, _⟩ => show 0 + 1 * (z 0).val = (z 0).val; omega
      | ⟨1, _⟩ => show 0 + 1 * (z 1).val = (z 1).val; omega
  rw [stores_eq, hld, harg1.read_unread, harg2.read_unread]
  intro p hp x
  rcases mem_pieces _ _ _ _ p _ _ _ hp with ⟨k, hk, ho, rfl⟩ | hp
  · exact piece_eq x0 x1 x1 x2 hP 32 k hk ho (if_neg (by omega)) (by omega) x
  rcases mem_pieces _ _ _ _ p _ _ _ hp with ⟨k, hk, ho, rfl⟩ | hp
  · exact piece_eq x0 x1 x0 x2 hP 0 k hk ho (if_pos (by omega)) (by omega) x
  · exact absurd hp List.not_mem_nil

end Cert.KernelIdeal.Haar

end
-- ==== Proof.Table.lean ====
/-
  The kernel's constant matrix: entry `(j, w)` is the scale where lane `j` is one of the two lanes `2w` and `2w + 1`,
  and zero elsewhere.
-/
module

public import proofs.«01_k».proof.KernelIdeal
public import Idealize.ShloMosaic.Lib.Decide

@[expose] public section

set_option maxRecDepth 16384

namespace Cert.KernelIdeal.Haar

open Cert.KernelIdeal Idealize.ShloMosaic

/-- The printed table's entry at row-major position `i` is the scale's word on the pairing's diagonal, else zero. -/
theorem lit0_eq : ∀ i : Fin 8192, lit0 i = if i.val / 64 / 2 = i.val % 64 then 0x3EB504F3#32 else 0x00000000#32 := by
  decide +kernel

end Cert.KernelIdeal.Haar
-- ==== Proof.Array.lean ====
/-
  What the arrays hold: the arrays the pallas_call reads, and the array it leaves.
-/
module

public import proofs.«01_k».proof.Proof.Block
public import proofs.«01_k».proof.Proof.Table

@[expose] public section

set_option maxRecDepth 16384

noncomputable section

namespace Cert.KernelIdeal.Haar

open Cert.KernelIdeal Cert.KernelIdeal.Gen Cert.Haar Idealize.ShloMosaic Idealize.ShloMosaic.TcCoe
open Idealize.ShloMosaic.Pipeline (Dat)

variable (m : (ℓ : Loc nD τ sig) → Buf (Elt Ideal) ℓ)

/-- The band of 32 images. -/
def imageBand (Y : S32x128x128x128.Idx → EReal) (j : S32x64x64x64.Idx) : EReal :=
  (∑ a : Fin 2, ∑ b : Fin 2, ∑ e : Fin 2, Y (ix4 (j 0) (pos (j 1) a) (pos (j 2) b) (pos (j 3) e))) * scale

/-- The 32 images the pallas_call reads: the argument reshaped. -/
def images (c : Dev nD) : S32x128x128x128.Idx → EReal :=
  shapeCast S32x128x128x128 (m ((c : Thread nD τ).loc main_arg0)) shapeCasts_S2x16x128x128x128_S32x128x128x128

/-- The images' array as the pallas_call finds it. -/
theorem V_images (c : Dev nD) : V m c main_call0_v0 = images m c := by
  entry_read
  rfl

/-- The printed table as extended reals. -/
def matrix : S128x64.Idx → EReal := fun i => Ideal.ofBits .f32 (lit0 (S128x64.rowMajor i))

/-- The printed table's entries are those of the pairing matrix. -/
theorem matrix_eq (i : S128x64.Idx) : matrix i = if (i 0).val / 2 = (i 1).val then scale else 0 := by
  have hr : (S128x64.rowMajor i).val = (i 0).val * 64 + (i 1).val := Shape.rowMajor_val_two i
  have h0 : Ideal.ofBits .f32 0x00000000#32 = 0 := by simp [Ideal.ofBits, Ideal.ieee]
  have hw : (i 1).val < 64 := (i 1).isLt
  unfold matrix
  rw [show lit0 (S128x64.rowMajor i) = _ from lit0_eq _, hr, show ((i 0).val * 64 + (i 1).val) / 64 = (i 0).val by omega,
    show ((i 0).val * 64 + (i 1).val) % 64 = (i 1).val by omega]
  split
  · rfl
  · exact h0

/-- The constant matrix as the pallas_call finds it. -/
theorem V_matrix (c : Dev nD) : V m c main_call0_cst = matrix := by
  entry_read
  rfl

/-- Where each window's block of each grid point lies. -/
theorem idx : ∀ t : Fin cfg0.N, win0_0.index t = ![t.val, 0, 0, 0] ∧ win0_1.index t = ![t.val, 1, 0, 0]
    ∧ win0_2.index t = ![0, 0] ∧ win0_3.index t = ![t.val, 0, 0, 0] :=
  (by decide +kernel : ∀ t : Fin grid0.N, _)

/-- The constant matrix pairs lanes. -/
theorem isPairing (c : Dev nD) (t : Fin cfg0.N) : IsPairing (iblk m c 2 t) := by
  intro j w
  have hb : iblk m c 2 t (ix2 j w) = matrix (ix2 j w) := by
    unfold iblk
    rw [← V_matrix m c]
    blk_ext [idx t]
  rw [hb, matrix_eq]
  rfl

/-- The first window's block is the first half of image `t`. -/
theorem first_half (c : Dev nD) (t : Fin cfg0.N) (d : Fin 64) (h w : Fin 128) :
    iblk m c 0 t (ix4 0 d h w) = images m c (ix4 ⟨t.val, N_0 ▸ t.isLt⟩ ⟨d.val, by omega⟩ h w) := by
  unfold iblk
  rw [← V_images]
  blk_ext [idx t]

/-- The second window's block is the second half of image `t`. -/
theorem second_half (c : Dev nD) (t : Fin cfg0.N) (d : Fin 64) (h w : Fin 128) :
    iblk m c 1 t (ix4 0 d h w) = images m c (ix4 ⟨t.val, N_0 ▸ t.isLt⟩ ⟨64 + d.val, by omega⟩ h w) := by
  unfold iblk
  rw [← V_images]
  blk_ext [idx t]

/-- The band of the two halves of image `t`, at an index of the output block, is the band of the images where that
    block lies in the array. -/
theorem block_image (c : Dev nD) (t : Fin cfg0.N) (y : S1x64x64x64.Idx) (i : S32x64x64x64.Idx) (h0 : (i 0).val = t.val)
    (h1 : (i 1).val = (y 1).val) (h2 : (i 2).val = (y 2).val) (h3 : (i 3).val = (y 3).val) :
    blockBand (iblk m c 0 t) (iblk m c 1 t) y = imageBand (images m c) i := by
  have hi0 : i 0 = (⟨t.val, N_0 ▸ t.isLt⟩ : Fin 32) := Fin.ext h0
  have hi1 : i 1 = y 1 := Fin.ext h1
  have hi2 : i 2 = y 2 := Fin.ext h2
  have hi3 : i 3 = y 3 := Fin.ext h3
  have hy : (y 1).val < 64 := (y 1).isLt
  unfold blockBand imageBand
  rw [hi0, hi1, hi2, hi3]
  congr 1
  refine Finset.sum_congr rfl fun a _ => Finset.sum_congr rfl fun b _ => Finset.sum_congr rfl fun e _ => ?_
  split
  · rw [first_half]
    congr 2
    apply Fin.ext
    show 2 * ((y 1).val % 32) + a.val = 2 * (y 1).val + a.val
    omega
  · rw [second_half]
    congr 2
    apply Fin.ext
    show 64 + (2 * ((y 1).val % 32) + a.val) = 2 * (y 1).val + a.val
    omega

/-- The pallas_call leaves the band of the images. -/
theorem array_eq (c : Dev nD) : (dats m 0 c).arrAt 3 (cfgs 0).N = imageBand (images m c) := by
  refine (dats m 0 c).arrAt_eq_of_covers 3 _ (by decide +kernel) fun t _ y => ?_
  blk_simp
  rw [after0_3]
  unfold outsAt0
  rw [out_eq _ _ _ _ _ _ _ _ _ _ _ _ _ (isPairing m c t)]
  obtain ⟨h0, h1, h2, h3⟩ : ((win0_3.blk t).view.emb y 0).val = t.val ∧ ((win0_3.blk t).view.emb y 1).val = (y 1).val
      ∧ ((win0_3.blk t).view.emb y 2).val = (y 2).val ∧ ((win0_3.blk t).view.emb y 3).val = (y 3).val := by
    refine ⟨?_, ?_, ?_, ?_⟩ <;> (blk_simp [idx t]; try omega)
  exact block_image m c t y _ h0 h1 h2 h3

/-- Reshaping the argument to images, taking their band and reshaping back is the band of the argument. -/
theorem reshape_imageBand (x : S2x16x128x128x128.Idx → EReal) :
    shapeCast S2x16x64x64x64 (imageBand (shapeCast S32x128x128x128 x shapeCasts_S2x16x128x128x128_S32x128x128x128))
      shapeCasts_S32x64x64x64_S2x16x64x64x64 = band x := by
  funext j
  have hj0 : (j 0).val < 2 := (j 0).isLt
  have hj1 : (j 1).val < 16 := (j 1).isLt
  refine (shapeCast_apply (s := S32x64x64x64) _ _ j (ix4 (⟨(j 0).val * 16 + (j 1).val, by omega⟩ : Fin 32) (j 2) (j 3) (j 4)) (by
    rw [Shape.rowMajor_val_four, Shape.rowMajor_val_five]; rfl)).trans ?_
  unfold imageBand band
  congr 1
  refine Finset.sum_congr rfl fun a _ => Finset.sum_congr rfl fun b _ => Finset.sum_congr rfl fun e _ => ?_
  exact shapeCast_apply x _ _ _ (by rw [Shape.rowMajor_val_four, Shape.rowMajor_val_five]; rfl)

end Cert.KernelIdeal.Haar

end
-- ==== Proof.Result.lean ====
/-
  The kernel's result: what the host's trailing reshape makes of the array the pallas_call leaves.
-/
module

public import proofs.«01_k».proof.Proof.Array

@[expose] public section

set_option maxRecDepth 16384

noncomputable section

namespace Cert.KernelIdeal.Haar

open Cert.KernelIdeal Cert.KernelIdeal.Gen Cert.Haar Idealize.ShloMosaic Idealize.ShloMosaic.TcCoe
open Idealize.SL.Sem
open Idealize.ShloMosaic.Pipeline (Dat)

variable (m : (ℓ : Loc nD τ sig) → Buf (Elt Ideal) ℓ)

/-- After the last host operation the result buffer holds the band of the argument. -/
theorem result_eq (c : Dev nD) :
    Pipeline.afterTail₀ cfgs (dats m) 0 (V0 m) [hostOps1] c main_v0 = band (m ((c : Thread nD τ).loc main_arg0)) := by
  unfold Pipeline.afterTail₀
  have hA : Pipeline.withArrays (cfgs 0).spec c (V0 m c) (fun w => (dats m 0 c).arrAt w (cfgs 0).N) (Proc.devRef .tc main_call0_v1)
      = imageBand (images m c) :=
    (Dat.withArrays_arrAt (dats m 0 c) sharedIn0 (V0 m c) (A_eq m c) 3).trans (array_eq m c)
  refine Eq.trans ?_ (reshape_imageBand _)
  generalize Pipeline.withArrays (cfgs 0).spec c (V0 m c) (fun w => (dats m 0 c).arrAt w (cfgs 0).N) = W at hA
  show StableHlo.after hostOps1 W (Proc.devRef .tc main_v0) = _
  unfold hostOps1
  after_results
  exact congrArg (fun A => shapeCast S2x16x64x64x64 A shapeCasts_S32x64x64x64_S2x16x64x64x64) hA

/-- The run: the result buffer ends with the band of the argument, and the argument as it was. -/
theorem run (ρ : Dev nD → PrngReg) :
    θ_run defs (onTc (τ := τ) (main (F := Ideal))) ⟨m, fun _ => 0, ρ⟩ (fun r => ∀ c : Dev nD,
      r.2.mem ((c.tc : Thread nD τ).loc main_v0) = band (m ((c.tc : Thread nD τ).loc main_arg0))
      ∧ r.2.mem ((c.tc : Thread nD τ).loc main_arg0) = m ((c.tc : Thread nD τ).loc main_arg0)) := by
  refine (θ_run defs _ _).mono (fun r h c => ⟨?_, ?_⟩) (run_main m ρ)
  · exact ((h c).2 main_v0 (Pipeline.mem_restRefs_of main_v0 (by decide) (by decide))).trans (result_eq m c)
  · exact ((h c).2 main_arg0 (Pipeline.mem_restRefs_of main_arg0 (by decide) (by decide))).trans (W_main_arg0 m (dats m) c)

end Cert.KernelIdeal.Haar

end
-- ==== Proof.RefValue.lean ====
/-
  What the reference computes: its reshape to rank eight, its sum over the three axes of size two and its product with
  the scale are the band.
-/
module

public import proofs.«01_k».proof.Proof.Gen.ReferenceIdeal.Read
public import proofs.«01_k».proof.Proof.Equation
public import Idealize.ShloMosaic.PureOps.Reduce

@[expose] public section

noncomputable section

namespace Cert.ReferenceIdeal.Haar

open Cert.ReferenceIdeal Cert.ReferenceIdeal.Gen Cert.ReferenceIdeal.Read Cert.Haar Idealize.ShloMosaic Idealize.ShloMosaic.TcCoe

/-- The rank-eight index over result index `j` at position `(a, b, e)` of its block. -/
def split (j : S2x16x64x64x64.Idx) (p : Fin 2 × Fin 2 × Fin 2) : S2x16x64x2x64x2x64x2.Idx := fun q => match q with
  | ⟨0, _⟩ => j 0 | ⟨1, _⟩ => j 1 | ⟨2, _⟩ => j 2 | ⟨3, _⟩ => p.1 | ⟨4, _⟩ => j 3 | ⟨5, _⟩ => p.2.1 | ⟨6, _⟩ => j 4 | ⟨7, _⟩ => p.2.2

/-- The result index a rank-eight index drops to: its coordinates without those on the axes of size two. -/
def dropped (i : S2x16x64x2x64x2x64x2.Idx) : S2x16x64x64x64.Idx := reducesTo_S2x16x64x2x64x2x64x2_S2x16x64x64x64_d3_5_7.drop i

/-- The dropped index, coordinate by coordinate. -/
theorem dropped_val (i : S2x16x64x2x64x2x64x2.Idx) :
    (dropped i 0).val = (i 0).val ∧ (dropped i 1).val = (i 1).val ∧ (dropped i 2).val = (i 2).val
      ∧ (dropped i 3).val = (i 4).val ∧ (dropped i 4).val = (i 6).val :=
  let h := reducesTo_S2x16x64x2x64x2x64x2_S2x16x64x64x64_d3_5_7
  ⟨h.drop_apply_val_of_eq i 0 0, h.drop_apply_val_of_eq i 1 1, h.drop_apply_val_of_eq i 2 2,
    h.drop_apply_val_of_eq i 3 4, h.drop_apply_val_of_eq i 4 6⟩

/-- The index over `j` drops to `j`. -/
theorem dropped_split (j : S2x16x64x64x64.Idx) (p : Fin 2 × Fin 2 × Fin 2) : dropped (split j p) = j := by
  obtain ⟨h0, h1, h2, h3, h4⟩ := dropped_val (split j p)
  funext b; apply Fin.ext
  match b with
  | ⟨0, _⟩ => exact h0
  | ⟨1, _⟩ => exact h1
  | ⟨2, _⟩ => exact h2
  | ⟨3, _⟩ => exact h3
  | ⟨4, _⟩ => exact h4

/-- Every rank-eight index is the one over its dropped index, at its own positions on the axes of size two. -/
theorem split_dropped (i : S2x16x64x2x64x2x64x2.Idx) : split (dropped i) (i 3, i 5, i 7) = i := by
  obtain ⟨h0, h1, h2, h3, h4⟩ := dropped_val i
  funext q; apply Fin.ext
  match q with
  | ⟨0, _⟩ => exact h0
  | ⟨1, _⟩ => exact h1
  | ⟨2, _⟩ => exact h2
  | ⟨3, _⟩ => rfl
  | ⟨4, _⟩ => exact h3
  | ⟨5, _⟩ => rfl
  | ⟨6, _⟩ => exact h4
  | ⟨7, _⟩ => rfl

/-- The sum over the indices that drop to `j` is the sum over the positions of `j`'s block. -/
theorem sum_dropped (f : S2x16x64x2x64x2x64x2.Idx → EReal) (j : S2x16x64x64x64.Idx) :
    ∑ i ∈ Finset.univ.filter (fun i => dropped i = j), f i
      = ∑ a : Fin 2, ∑ b : Fin 2, ∑ e : Fin 2, f (split j (a, b, e)) := by
  have hprod : ∑ a : Fin 2, ∑ b : Fin 2, ∑ e : Fin 2, f (split j (a, b, e)) = ∑ p : Fin 2 × Fin 2 × Fin 2, f (split j p) := by
    rw [Fintype.sum_prod_type]
    exact Finset.sum_congr rfl fun a _ => (Fintype.sum_prod_type fun q : Fin 2 × Fin 2 => f (split j (a, q))).symm
  rw [hprod]
  refine Finset.sum_nbij' (fun i => (i 3, i 5, i 7)) (fun p => split j p) (fun _ _ => Finset.mem_univ _)
    (fun p _ => Finset.mem_filter.mpr ⟨Finset.mem_univ _, dropped_split j p⟩) (fun i hi => ?_) (fun _ _ => rfl) (fun i hi => ?_)
  · obtain rfl := (Finset.mem_filter.mp hi).2
    exact split_dropped i
  · obtain rfl := (Finset.mem_filter.mp hi).2
    exact congrArg f (split_dropped i).symm

/-- The reference's reshape at the index over `j` reads the argument inside `j`'s block. -/
theorem reshape_split (x : S2x16x128x128x128.Idx → EReal) (j : S2x16x64x64x64.Idx) (a b e : Fin 2) :
    shapeCast S2x16x64x2x64x2x64x2 x shapeCasts_S2x16x128x128x128_S2x16x64x2x64x2x64x2 (split j (a, b, e))
      = x (ix5 (j 0) (j 1) (pos (j 2) a) (pos (j 3) b) (pos (j 4) e)) := by
  refine shapeCast_apply x _ _ _ ?_
  rw [Shape.rowMajor_val_five, Shape.rowMajor_val_succ, Shape.rowMajor_val_succ, Shape.rowMajor_val_succ, Shape.rowMajor_val_five]
  show (((((j 0).val * 16 + (j 1).val) * 128 + (2 * (j 2).val + a.val)) * 128 + (2 * (j 3).val + b.val)) * 128 + (2 * (j 4).val + e.val))
    = (j 0).val * 33554432 + ((j 1).val * 2097152 + ((j 2).val * 32768 + ((((a.val * 64 + (j 3).val) * 2 + b.val) * 64 + (j 4).val) * 2 + e.val)))
  omega

/-- The reference's result is the band of its argument. -/
theorem result_eq (x : S2x16x128x128x128.Idx → EReal) : val_main_v3 (F := Ideal) x = band x := by
  funext j
  rw [val_main_v3_apply, val_main_v2_apply, val_main_cst_0_apply]
  have hsum : val_main_v1 (F := Ideal) x j
      = ∑ a : Fin 2, ∑ b : Fin 2, ∑ e : Fin 2, x (ix5 (j 0) (j 1) (pos (j 2) a) (pos (j 3) b) (pos (j 4) e)) := by
    have h0 : Ideal.ofBits .f32 0x00000000#32 = 0 := by simp [Ideal.ofBits, Ideal.ieee]
    show Ideal.ofBits .f32 0x00000000#32 + ∑ i ∈ Finset.univ.filter (fun i => dropped i = j), val_main_v0 (F := Ideal) x i = _
    rw [h0, zero_add, sum_dropped]
    simp only [val_main_v0, reshape_split]
  rw [hsum]
  rfl

end Cert.ReferenceIdeal.Haar

end
-- ==== Proof.lean ====
/-
  The certificate: the three frames are the generated runs', the ideal pass rewrote nothing, and the two programs meet
  in the band of the argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs and leaves its argument as it was; it declares no semaphore, so every counter is at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- From the same argument both programs run and end with the band of it in their results, their arguments unchanged. -/
theorem same_band : Cert.algebraic_KernelIdeal_ReferenceIdeal (hKernelIdeal := Cert.KernelIdeal.Gen.facts)
    (hReferenceIdeal := Cert.ReferenceIdeal.Gen.facts) := by
  intro m g m' g' _ hargs
  refine ⟨fun c => Cert.Haar.band (m ((c.tc : Thread Cert.KernelIdeal.nD Cert.KernelIdeal.τ).loc Cert.KernelIdeal.main_arg0)),
    Cert.KernelIdeal.Haar.run m g, ?_⟩
  refine (θ_run _ _ _).mono (fun r h c => ⟨(h c).1.trans ?_, (h c).2⟩) (Cert.ReferenceIdeal.Value.run (F := Ideal) m' g')
  refine (Cert.ReferenceIdeal.Read.val_main_v3_eq (F := Ideal) _).trans ?_
  rw [hargs c]
  exact Cert.ReferenceIdeal.Haar.result_eq _

/-- The five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_band⟩

end Cert.Proof

end
